-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S16384x256 : Shape := ⟨2, ![16384, 256]⟩
abbrev S1024x256 : Shape := ⟨2, ![1024, 256]⟩
abbrev S_ : Shape := ⟨0, ![]⟩

class Facts : Prop where
  bcast_S_S16384x256 : S_.BroadcastsInDim S16384x256 (![] : Fin 0 → Fin S16384x256.rank)
  bcast_S_S1024x256 : S_.BroadcastsInDim S1024x256 (![] : Fin 0 → Fin S1024x256.rank)

variable [Facts]

def fn {F : FTy → Type} [FloatOps F] (main_arg0 : FVec F S16384x256 .f32) (main_arg1 : FVec F S16384x256 .f32) (main_arg2 : FVec F S1024x256 .f32) : IVec S16384x256 1 × IVec S16384x256 1 × IVec S1024x256 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_v3 : FVec F S16384x256 .f32 := Host.absf main_arg1
  let main_cst_0 : FVec F S_ .f32 := constant S_ .f32 0x7F800000#32
  let main_v4 : FVec F S16384x256 .f32 := broadcastInDim S16384x256 ![] bcast_S_S16384x256 main_cst_0
  let main_v5 : IVec S16384x256 1 := cmpf .olt main_v3 main_v4
  let main_v6 : FVec F S1024x256 .f32 := Host.absf main_arg2
  let main_cst_1 : FVec F S_ .f32 := constant S_ .f32 0x7F800000#32
  let main_v7 : FVec F S1024x256 .f32 := broadcastInDim S1024x256 ![] bcast_S_S1024x256 main_cst_1
  let main_v8 : IVec S1024x256 1 := cmpf .olt main_v6 main_v7
  (main_v2, main_v5, main_v8)
-- ==== Kernel.lean ====
abbrev S16384x256 : Shape := ⟨2, ![16384, 256]⟩
abbrev S1024x256 : Shape := ⟨2, ![1024, 256]⟩
abbrev S_ : Shape := ⟨0, ![]⟩
abbrev S1024 : Shape := ⟨1, ![1024]⟩
abbrev S1x1024 : Shape := ⟨2, ![1, 1024]⟩
abbrev S16384x8 : Shape := ⟨2, ![16384, 8]⟩
abbrev S1x1 : Shape := ⟨2, ![1, 1]⟩
abbrev S2048x256 : Shape := ⟨2, ![2048, 256]⟩
abbrev S2048x8 : Shape := ⟨2, ![2048, 8]⟩
abbrev S2048 : Shape := ⟨1, ![2048]⟩
abbrev S2048x1 : Shape := ⟨2, ![2048, 1]⟩
abbrev S2048x1024 : Shape := ⟨2, ![2048, 1024]⟩
abbrev S1x2048x1 : Shape := ⟨3, ![1, 2048, 1]⟩
abbrev S1 : Shape := ⟨1, ![1]⟩
abbrev S1x1x1 : Shape := ⟨3, ![1, 1, 1]⟩

abbrev nBuf : Space → Nat
  | .hbm => 12
  | .vmem => 9
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024, .f32⟩
  | .hbm, ⟨6, _⟩ => ⟨S1x1024, .f32⟩
  | .hbm, ⟨7, _⟩ => ⟨S16384x8, .i32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1024x256, .f32⟩
  | .local _ .vmem, ⟨5, _⟩ => ⟨S1x1024, .f32⟩
  | .local _ .vmem, ⟨6, _⟩ => ⟨S2048x8, .i32⟩
  | .local _ .vmem, ⟨7, _⟩ => ⟨S2048x8, .i32⟩
  | .local _ .vmem, ⟨8, _⟩ => ⟨S1x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x8 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S16384x256 : Shape := ⟨2, ![16384, 256]⟩
abbrev S1024x256 : Shape := ⟨2, ![1024, 256]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S256x1024 : Shape := ⟨2, ![256, 1024]⟩
abbrev S16384x8 : Shape := ⟨2, ![16384, 8]⟩
abbrev S1 : Shape := ⟨1, ![1]⟩
abbrev S1x1 : Shape := ⟨2, ![1, 1]⟩

abbrev nBuf : Space → Nat
  | .hbm => 56
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S1024x256, .f32⟩
  | .hbm, ⟨3, _⟩ => ⟨S16384x256, .f32⟩
  | .hbm, ⟨4, _⟩ => ⟨S16384x256, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S256x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x8, .f32⟩
  | .hbm, ⟨23, _⟩ => ⟨S16384x8, .i32⟩
  | .hbm, ⟨24, _⟩ => ⟨S16384x1, .i32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S1, .i32⟩
  | .hbm, ⟨35, _⟩ => ⟨S_, .i32⟩
  | .hbm, ⟨36, _⟩ => ⟨S16384x1, .i32⟩
  | .hbm, ⟨37, _⟩ => ⟨S16384x1, .i1⟩
  | .hbm, ⟨38, _⟩ => ⟨S1x1, .i32⟩
  | .hbm, ⟨39, _⟩ => ⟨S16384x1, .i32⟩
  | .hbm, ⟨40, _⟩ => ⟨S16384x1, .i1⟩
  | .hbm, ⟨41, _⟩ => ⟨S16384x1, .i1⟩
  | .hbm, ⟨42, _⟩ => ⟨S_, .i1⟩
  | .hbm, ⟨43, _⟩ => ⟨S16384, .i1⟩
  | .hbm, ⟨44, _⟩ => ⟨S16384x256, .f32⟩
  | .hbm, ⟨45, _⟩ => ⟨S16384x256, .i1⟩
  | .hbm, ⟨46, _⟩ => ⟨S_, .f32⟩
  | .hbm, ⟨47, _⟩ => ⟨S16384x256, .f32⟩
  | .hbm, ⟨48, _⟩ => ⟨S16384x256, .f32⟩
  | .hbm, ⟨49, _⟩ => ⟨S16384x256, .f32⟩
  | .hbm, ⟨50, _⟩ => ⟨S16384x256, .f32⟩
  | .hbm, ⟨51, _⟩ => ⟨S16384x256, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_values : Ref sig .tc := ⟨.hbm, 22, rfl⟩
abbrev main_indices : Ref sig .tc := ⟨.hbm, 23, rfl⟩
abbrev main_v16 : Ref sig .tc := ⟨.hbm, 24, rfl⟩
abbrev main_v17 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_2 : Ref sig .tc := ⟨.hbm, 52, rfl⟩
abbrev main_v22 : Ref sig .tc := ⟨.hbm, 53, rfl⟩
abbrev main_cst_3 : Ref sig .tc := ⟨.hbm, 54, rfl⟩
abbrev main_v23 : Ref sig .tc := ⟨.hbm, 55, rfl⟩

abbrev nD : Nat := 1
abbrev τ : Topo := Topo.v7x

variable {F : FTy → Type} [FloatOps F]
-- ==== Proof.Rounds.lean ====
/- Selecting the smallest entries of a row one after the other, and sorting the row: the two give the same
   positions. A row is a family `f : Fin n → EReal` without `⊤`. A ROUND takes the least entry of the row, then the
   least position (as a number, `pos k`) at which the row attains it, and overwrites the row with `⊤` there. After
   `j` rounds the position found is the one a stable ascending sort puts at place `j`. -/
module

public import Idealize.ShloMosaic.Lib.SortFacts
public import Mathlib.Data.EReal.Basic
public import Mathlib.Data.Finset.Fold

@[expose] public section

noncomputable section

namespace Cert.Rows

open Idealize.ShloMosaic

variable {n : ℕ}

/-! ## The stable order -/

/-- Position `k` sorts strictly before position `k'`: its entry is smaller. -/
def before (f : Fin n → EReal) (k k' : Fin n) : Bool := decide (f k < f k')

/-- The same with ties decided by position. -/
def beforeLex (f : Fin n → EReal) (k k' : Fin n) : Bool := decide (f k < f k' ∨ (f k = f k' ∧ k < k'))

/-- The position a stable ascending sort of the row puts at place `j`. -/
def order (f : Fin n → EReal) (j : Fin n) : Fin n := sortedFrom (before f) j

/-- On positions listed in ascending order the stable sort is the sort by entry and then position. -/
theorem stableSort_before (f : Fin n → EReal) (l : List (Fin n)) (hl : l.Pairwise (· < ·)) :
    stableSort (before f) l = stableSort (beforeLex f) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [before, beforeLex, not_lt_of_gt hab]

theorem order_eq_lex (f : Fin n → EReal) (j : Fin n) : order f j = sortedFrom (beforeLex f) j := by
  have h : sortPositions n (before f) = sortPositions n (beforeLex f) :=
    stableSort_before f _ (List.sortedLT_finRange n).pairwise
  unfold order sortedFrom
  rw [List.get_of_eq h]
  rfl

theorem order_injective (f : Fin n → EReal) : Function.Injective (order f) := sortedFrom_injective _
theorem order_surjective (f : Fin n → EReal) : Function.Surjective (order f) := sortedFrom_surjective _

/-- Of two places the earlier one holds the smaller entry or, at equal entries, the smaller position. -/
theorem order_sorted (f : Fin n → EReal) (i j : Fin n) (hij : i < j) :
    f (order f i) < f (order f j) ∨ (f (order f i) = f (order f j) ∧ order f i < order f j) := by
  have h : beforeLex f (order f j) (order f i) = false := by
    rw [order_eq_lex, order_eq_lex]
    refine sortedFrom_noInversion (beforeLex f) (beforeLex f) ?_ (fun _ _ h => h) ?_ i j hij
    · intro a b h
      simp only [beforeLex, decide_eq_true_eq, decide_eq_false_iff_not] at h ⊢
      rintro (h' | ⟨h', h''⟩) <;> rcases h with h | ⟨h, h2⟩
      · exact lt_asymm h h'
      · exact (h ▸ h').false
      · exact (h' ▸ h).false
      · exact lt_asymm h2 h''
    · intro a b c h h'
      simp only [beforeLex, decide_eq_false_iff_not, not_or, not_and, not_lt] at h h' ⊢
      refine ⟨h'.1.trans h.1, fun he => ?_⟩
      have h1 : f a = f b := le_antisymm (he ▸ h'.1) h.1
      exact (h'.2 (h1 ▸ he)).trans (h.2 h1)
  have hne : order f i ≠ order f j := fun he => hij.ne (order_injective f he)
  simp only [beforeLex, decide_eq_false_iff_not, not_or, not_and, not_lt] at h
  rcases lt_or_eq_of_le h.1 with h1 | h1
  · exact .inl h1
  · exact .inr ⟨h1, lt_of_le_of_ne (h.2 h1.symm) hne⟩

theorem order_le (f : Fin n → EReal) (i j : Fin n) (hij : i ≤ j) : f (order f i) ≤ f (order f j) := by
  rcases eq_or_lt_of_le hij with rfl | h
  · exact le_rfl
  · rcases order_sorted f i j h with h | h
    · exact h.le
    · exact h.1.le

/-! ## The rounds -/

/-- The least entry of a row. -/
def least (f : Fin n → EReal) : EReal := Finset.univ.fold min ⊤ f

variable (pos : Fin n → EReal) (cap : EReal)

/-- The least position number among the entries equal to the least one. -/
def first (f : Fin n → EReal) : EReal := least fun k => if f k = least f then pos k else cap

/-- The row with the entry found overwritten by `⊤`. -/
def masked (f : Fin n → EReal) : Fin n → EReal := fun k => if pos k = first pos cap f then ⊤ else f k

/-- A value attained and below every entry is the least entry. -/
theorem least_eq (f : Fin n → EReal) (i : Fin n) (h : ∀ k, f i ≤ f k) : least f = f i := by
  unfold least
  refine le_antisymm ?_ ?_
  · exact (Finset.fold_min_le _).mpr (.inr ⟨i, Finset.mem_univ i, le_rfl⟩)
  · exact (Finset.le_fold_min _).mpr ⟨le_top, fun k _ => h k⟩

/-- The row's least entry is the sort's first. -/
theorem least_eq_order (f : Fin n → EReal) (z : Fin n) (hz : z.val = 0) : least f = f (order f z) :=
  least_eq f _ fun k => by
    obtain ⟨i, rfl⟩ := order_surjective f k
    exact order_le f z i (Fin.le_def.mpr (by omega))

variable {pos cap}

/-- What a round finds in a row some of whose first places are already overwritten. -/
theorem first_of_masked (hpos : StrictMono pos) (hcap : ∀ k, pos k < cap) (f g : Fin n → EReal) (hf : ∀ k, f k ≠ ⊤)
    (j : Fin n) (hg : ∀ i, g (order f i) = if i < j then ⊤ else f (order f i)) :
    first pos cap g = pos (order f j) := by
  have hgj : g (order f j) = f (order f j) := by rw [hg, if_neg (lt_irrefl j)]
  have hl : least g = f (order f j) := by
    rw [← hgj]
    refine least_eq g _ fun k => ?_
    obtain ⟨i, rfl⟩ := order_surjective f k
    rw [hgj, hg]
    split
    · exact le_top
    · exact order_le f j i (by omega)
  have hfirst : (if g (order f j) = least g then pos (order f j) else cap) = pos (order f j) :=
    if_pos (hgj.trans hl.symm)
  refine (least_eq _ (order f j) fun k => ?_).trans hfirst
  rw [hfirst]
  obtain ⟨i, rfl⟩ := order_surjective f k
  split
  · rename_i h
    rw [hl, hg] at h
    by_cases hij : i < j
    · rw [if_pos hij] at h
      exact absurd h.symm (hf _)
    · rw [if_neg hij] at h
      rcases eq_or_lt_of_le (not_lt.mp hij) with rfl | hlt
      · exact le_rfl
      · rcases order_sorted f j i hlt with h' | h'
        · exact absurd h h'.ne'
        · exact hpos.monotone h'.2.le
  · exact (hcap _).le

/-- After `j` rounds exactly the sort's first `j` places are overwritten. -/
theorem masked_iterate (hpos : StrictMono pos) (hcap : ∀ k, pos k < cap) (f : Fin n → EReal) (hf : ∀ k, f k ≠ ⊤)
    (j : ℕ) (hj : j ≤ n) (i : Fin n) :
    (masked pos cap)^[j] f (order f i) = if i.val < j then ⊤ else f (order f i) := by
  induction j generalizing i with
  | zero => simp
  | succ j ih =>
    have hfst := first_of_masked hpos hcap f ((masked pos cap)^[j] f) hf ⟨j, by omega⟩ fun i => by
      simpa only [Fin.lt_def] using ih (by omega) i
    rw [Function.iterate_succ_apply', masked, hfst, ih (by omega)]
    by_cases h : i = ⟨j, by omega⟩
    · subst h; simp
    · have h1 : pos (order f i) ≠ pos (order f ⟨j, by omega⟩) := fun he =>
        h (order_injective f (hpos.injective he))
      have h2 : i.val ≠ j := fun he => h (Fin.ext he)
      rw [if_neg h1]
      by_cases h3 : i.val < j
      · rw [if_pos h3, if_pos (by omega)]
      · rw [if_neg h3, if_neg (by omega)]

/-- THE ROUNDS ARE THE SORT: what round `j` finds is the position the stable ascending sort puts at place `j`. -/
theorem first_iterate (hpos : StrictMono pos) (hcap : ∀ k, pos k < cap) (f : Fin n → EReal) (hf : ∀ k, f k ≠ ⊤)
    (j : Fin n) : first pos cap ((masked pos cap)^[j.val] f) = pos (order f j) :=
  first_of_masked hpos hcap f _ hf j fun i => by
    simpa only [Fin.lt_def] using masked_iterate hpos hcap f hf j.val j.isLt.le i

end Cert.Rows

end
-- ==== Proof.Words.lean ====
/- The float constants of the programs as extended reals, and a position written as a float and read back as a word. -/
module

public import Idealize.ShloMosaic.PureOps.Ideal
public import Idealize.ShloMosaic.PureOps.IdealRules
public import Idealize.ShloMosaic.Lib.IdealHost

@[expose] public section

noncomputable section

namespace Cert.Rows

open Idealize.ShloMosaic

/-- The infinity word. -/
theorem word_inf : Ideal.ofBits .f32 0x7F800000#32 = ⊤ := by simp [Ideal.ofBits, Ideal.ieee]

/-- 1024.0. -/
theorem word_1024 : Ideal.ofBits .f32 0x44800000#32 = ((1024 : ℝ) : EReal) := by
  simp [Ideal.ofBits, Ideal.ieee, -EReal.coe_mul]; norm_num

/-- 2.0. -/
theorem word_two : Ideal.ofBits .f32 0x40000000#32 = ((2 : ℝ) : EReal) := by
  simp [Ideal.ofBits, Ideal.ieee, -EReal.coe_mul]; norm_num

/-- Position `k` of a row of 1024 as a number. -/
def posOf (k : Fin 1024) : EReal := ((k.val : ℝ) : EReal)

/-- The number above every position. -/
def capOf : EReal := ((1024 : ℝ) : EReal)

theorem posOf_strictMono : StrictMono posOf := fun a b h => by
  unfold posOf
  exact EReal.coe_lt_coe_iff.mpr (Nat.cast_lt.mpr h)

theorem posOf_lt_cap (k : Fin 1024) : posOf k < capOf := by
  unfold posOf capOf
  refine EReal.coe_lt_coe_iff.mpr ?_
  exact_mod_cast k.isLt

/-- A position's word converted to a float is its number. -/
theorem sitofp_pos (k : Fin 1024) :
    FloatOps.sitofp (F := Ideal) FTy.f32 (BitVec.ofNat 32 k.val) = posOf k := by
  have h : (BitVec.ofNat 32 k.val).toInt = (k.val : ℤ) := by
    rw [BitVec.toInt_eq_toNat_of_lt] <;> simp only [BitVec.toNat_ofNat] <;> have := k.isLt <;> omega
  change (((BitVec.ofNat 32 k.val).toInt : ℝ) : EReal) = posOf k
  rw [h]
  unfold posOf
  norm_cast

/-- And its number converted back is the word. -/
theorem fptosi_pos (k : Fin 1024) :
    FloatOps.fptosi (F := Ideal) (φ := .f32) 32 (posOf k) = BitVec.ofNat 32 k.val := by
  have hk := k.isLt
  change Ideal.fptosi 32 ((k.val : ℝ) : EReal) = _
  rw [Ideal.fptosi, Ideal.toIntClamped_coe, if_pos (Nat.cast_nonneg _), Int.floor_natCast, min_eq_right (by omega),
    max_eq_right (by omega), BitVec.ofInt_natCast]

end Cert.Rows

end
-- ==== Proof.Block.lean ====
/- What one grid point of the kernel computes from its blocks: the distances of 2048 rows to the 1024 codewords,
   the positions of the eight smallest in every row, and the sum over the rows of the smallest. -/
module

public import proofs.«01_k».proof.Proof.Gen.KernelIdeal.Skeleton
public import proofs.«01_k».proof.Proof.Rounds
public import proofs.«01_k».proof.Proof.Words
public import Idealize.ShloMosaic.Lib.Pointwise
public import Idealize.ShloMosaic.Lib.Pipeline.Value

@[expose] public section

noncomputable section

namespace Cert.KernelIdeal.Block

open Idealize.ShloMosaic Cert.KernelIdeal Cert.KernelIdeal.Gen Cert.Rows

/-- A row of a block of 2048 by 1024. -/
def rowOf (D : FVec Ideal S2048x1024 .f32) (r : Fin 2048) (k : Fin 1024) : EReal := D (ix2 r k)

/-- The column of the rows' least entries. -/
def minCol (D : FVec Ideal S2048x1024 .f32) : FVec Ideal S2048x1 .f32 :=
  shapeCast S2048x1 (multiReduction .minimumf [1] S2048 D 0x7F800000#32 reduces_S2048x1024_S2048 (.inl rfl) rfl) shapeCasts_S2048_S2048x1

/-- The positions where a row equals its least entry, the cap elsewhere. -/
def candidates (D : FVec Ideal S2048x1024 .f32) : FVec Ideal S2048x1024 .f32 :=
  select (cmpf .oeq D (broadcastTo S2048x1024 (minCol D) broadcasts_S2048x1_S2048x1024)) (k0_pay3 (F := Ideal))
    (broadcast S2048x1024 (Scalar.ofBits (F := Ideal) .f32 0x44800000#32))

/-- The column of the positions found in one round. -/
def idxCol (D : FVec Ideal S2048x1024 .f32) : FVec Ideal S2048x1 .f32 := minCol (candidates D)

/-- The block with the entries found overwritten by infinity. -/
def maskStep (D : FVec Ideal S2048x1024 .f32) : FVec Ideal S2048x1024 .f32 :=
  select (cmpf .oeq (k0_pay3 (F := Ideal)) (broadcastTo S2048x1024 (idxCol D) broadcasts_S2048x1_S2048x1024))
    (broadcast S2048x1024 (Scalar.ofBits (F := Ideal) .f32 0x7F800000#32)) D

theorem minCol_apply (D : FVec Ideal S2048x1024 .f32) (r : Fin 2048) :
    minCol D (ix2 r 0) = least (rowOf D r) := by
  unfold minCol
  pointwise
  rw [word_inf]
  rfl

theorem iota_apply (r : Fin 2048) (k : Fin 1024) : k0_pay3 (F := Ideal) (ix2 r k) = posOf k := by
  unfold k0_pay3
  pointwise
  exact sitofp_pos k

theorem candidates_apply (D : FVec Ideal S2048x1024 .f32) (r : Fin 2048) (k : Fin 1024) :
    candidates D (ix2 r k) = if rowOf D r k = least (rowOf D r) then posOf k else capOf := by
  unfold candidates
  pointwise
  rw [minCol_apply, iota_apply, word_1024]
  rfl

/-- A round finds, in every row, the least position of the row's least entry. -/
theorem idxCol_apply (D : FVec Ideal S2048x1024 .f32) (r : Fin 2048) :
    idxCol D (ix2 r 0) = first posOf capOf (rowOf D r) := by
  unfold idxCol
  rw [minCol_apply]
  unfold first
  exact congrArg least (funext fun k => candidates_apply D r k)

/-- A choice on equality of two numbers. -/
theorem select_oeq (a b x y : EReal) :
    Scalar.select (FloatOps.cmpf (F := Ideal) (φ := .f32) .oeq a b) x y = if a = b then x else y := by
  change Scalar.select (BitVec.ofBool (decide (a = b))) x y = _
  by_cases h : a = b
  · rw [if_pos h, decide_eq_true h]; rfl
  · rw [if_neg h, decide_eq_false h]; rfl

theorem select_inf_apply (P J D : FVec Ideal S2048x1024 .f32) (i : S2048x1024.Idx) :
    select (cmpf .oeq P J) (broadcast S2048x1024 (Scalar.ofBits (F := Ideal) .f32 0x7F800000#32)) D i
      = if P i = J i then Ideal.ofBits .f32 0x7F800000#32 else D i :=
  select_oeq _ _ _ _

theorem spread_apply (I : FVec Ideal S2048x1 .f32) (r : Fin 2048) (k : Fin 1024) :
    broadcastTo S2048x1024 I broadcasts_S2048x1_S2048x1024 (ix2 r k) = I (ix2 r 0) := by
  pointwise

theorem maskStep_apply (D : FVec Ideal S2048x1024 .f32) (r : Fin 2048) (k : Fin 1024) :
    maskStep D (ix2 r k) = if posOf k = first posOf capOf (rowOf D r) then ⊤ else rowOf D r k := by
  rw [maskStep, select_inf_apply, spread_apply, idxCol_apply, iota_apply, word_inf]
  rfl

/-- And overwrites that entry. -/
theorem rowOf_maskStep (D : FVec Ideal S2048x1024 .f32) (r : Fin 2048) :
    rowOf (maskStep D) r = masked posOf capOf (rowOf D r) :=
  funext fun k => maskStep_apply D r k

theorem rowOf_maskStep_iterate (D : FVec Ideal S2048x1024 .f32) (r : Fin 2048) (j : ℕ) :
    rowOf (maskStep^[j] D) r = (masked posOf capOf)^[j] (rowOf D r) := by
  induction j with
  | zero => rfl
  | succ j ih => rw [Function.iterate_succ_apply', Function.iterate_succ_apply', rowOf_maskStep, ih]

/-- The distances of a row `xt - xh` to a codeword: the squared norms of both less twice the product. -/
def dist {d : ℕ} (xt xh cb : Fin d → EReal) (b2 : EReal) : EReal :=
  ∑ k, (xt k - xh k) * (xt k - xh k) + b2 - ((2 : ℝ) : EReal) * ∑ k, (xt k - xh k) * cb k

section
variable (xt xh : Vec Ideal S2048x256 .f32) (cb : Vec Ideal S1024x256 .f32) (b2 : Vec Ideal S1x1024 .f32)

theorem dists_apply (r : Fin 2048) (k : Fin 1024) :
    k0_pay2 xt xh cb b2 (ix2 r k)
      = dist (fun e => xt (ix2 r e)) (fun e => xh (ix2 r e)) (fun e => cb (ix2 k e)) (b2 (ix2 0 k)) := by
  unfold k0_pay2
  pointwise
  rw [word_two]
  rfl

/-- The eight columns of positions, as the kernel computes them from its four blocks. -/
def cand : IVec S2048x8 32 :=
  k0_pay22 (k0_pay3 (F := Ideal)) (k0_pay6 xt xh cb b2) (k0_pay11 (k0_pay9 xt xh cb b2))
    (k0_pay14 (k0_pay3 (F := Ideal)) (k0_pay8 xt xh cb b2) (k0_pay9 xt xh cb b2))
    (k0_pay17 (k0_pay3 (F := Ideal)) (k0_pay8 xt xh cb b2) (k0_pay9 xt xh cb b2))
    (k0_pay20 (k0_pay3 (F := Ideal)) (k0_pay8 xt xh cb b2) (k0_pay9 xt xh cb b2))
    (k0_pay21 (k0_pay3 (F := Ideal)) (k0_pay8 xt xh cb b2) (k0_pay9 xt xh cb b2))

/-- The words of the positions found in the `j`-th round on a block of distances. -/
def idxWords (D : FVec Ideal S2048x1024 .f32) (j : ℕ) : IVec S2048x1 32 := fptosi 32 (idxCol (maskStep^[j] D))

/-- One round of the printed payloads is one round here: from a block `D` and its candidates, the positions found, -/
theorem pay10_eq (D : FVec Ideal S2048x1024 .f32) : k0_pay10 (candidates D) = idxCol D := rfl
/-- and the block overwritten. -/
theorem pay12_eq (D : FVec Ideal S2048x1024 .f32) :
    k0_pay12 (k0_pay3 (F := Ideal)) D (candidates D) = maskStep D := rfl
theorem pay13_eq (D : FVec Ideal S2048x1024 .f32) :
    k0_pay13 (k0_pay3 (F := Ideal)) D (candidates D) = idxCol (maskStep D) := rfl
theorem pay15_eq (D : FVec Ideal S2048x1024 .f32) :
    k0_pay15 (k0_pay3 (F := Ideal)) D (candidates D) = maskStep (maskStep D) := rfl
theorem pay16_eq (D : FVec Ideal S2048x1024 .f32) :
    k0_pay16 (k0_pay3 (F := Ideal)) D (candidates D) = idxCol (maskStep (maskStep D)) := by
  unfold k0_pay16; rw [pay15_eq]; rfl
theorem pay18_eq (D : FVec Ideal S2048x1024 .f32) :
    k0_pay18 (k0_pay3 (F := Ideal)) D (candidates D) = maskStep (maskStep (maskStep D)) := by
  unfold k0_pay18; rw [pay15_eq, pay16_eq]; rfl
theorem pay19_eq (D : FVec Ideal S2048x1024 .f32) :
    k0_pay19 (k0_pay3 (F := Ideal)) D (candidates D) = idxCol (maskStep (maskStep (maskStep D))) := by
  unfold k0_pay19; rw [pay18_eq]; rfl
theorem pay21_eq (D : FVec Ideal S2048x1024 .f32) :
    k0_pay21 (k0_pay3 (F := Ideal)) D (candidates D) = maskStep (maskStep (maskStep (maskStep D))) := by
  unfold k0_pay21; rw [pay18_eq, pay19_eq]; rfl

/-- The last three rounds and the eight columns side by side. -/
theorem pay22_eq (c0 c1 c2 c3 c4 : IVec S2048x1 32) (D : FVec Ideal S2048x1024 .f32) :
    k0_pay22 (k0_pay3 (F := Ideal)) c0 c1 c2 c3 c4 D
      = concatenate S2048x8 1 [⟨S2048x1, c0⟩, ⟨S2048x1, c1⟩, ⟨S2048x1, c2⟩, ⟨S2048x1, c3⟩, ⟨S2048x1, c4⟩,
          ⟨S2048x1, fptosi 32 (idxCol D)⟩, ⟨S2048x1, fptosi 32 (idxCol (maskStep D))⟩,
          ⟨S2048x1, fptosi 32 (idxCol (maskStep (maskStep D)))⟩]
          concatenates_S2048x1_S2048x1_S2048x1_S2048x1_S2048x1_S2048x1_S2048x1_S2048x1_S2048x8_d1 := by
  unfold k0_pay22
  dsimp only
  congr 1

theorem pay8_eq : k0_pay8 xt xh cb b2 = maskStep (k0_pay2 xt xh cb b2) := rfl
theorem pay9_eq : k0_pay9 xt xh cb b2 = candidates (maskStep (k0_pay2 xt xh cb b2)) := rfl
theorem pay6_eq : k0_pay6 xt xh cb b2 = idxWords (k0_pay2 xt xh cb b2) 0 := rfl

/-- Concatenating two equal lists of pieces. -/
theorem concatenate_congr {t : Shape} (a : Fin t.rank) {α : Type} {xs ys : List ((s : Shape) × (s.Idx → α))} (e : xs = ys)
    (hx : Shape.Concatenates (xs.map (·.1)) t a) (hy : Shape.Concatenates (ys.map (·.1)) t a) :
    concatenate t a xs hx = concatenate t a ys hy := by
  subst e; rfl

/-- The kernel's columns are the positions found in eight rounds. -/
theorem cand_eq : cand xt xh cb b2
    = concatenate S2048x8 1 (List.ofFn fun j : Fin 8 =>
        (⟨S2048x1, idxWords (k0_pay2 xt xh cb b2) j.val⟩ : (s : Shape) × (s.Idx → BitVec 32)))
        concatenates_S2048x1_S2048x1_S2048x1_S2048x1_S2048x1_S2048x1_S2048x1_S2048x1_S2048x8_d1 := by
  unfold cand
  rw [pay22_eq, pay9_eq, pay8_eq, pay6_eq, pay21_eq]
  unfold k0_pay11 k0_pay14 k0_pay17 k0_pay20
  rw [pay10_eq, pay13_eq, pay16_eq, pay19_eq]
  refine concatenate_congr _ ?_ _ _
  simp only [List.ofFn_succ, List.ofFn_zero, idxWords, Fin.val_succ, Fin.val_zero, Function.iterate_succ_apply',
    Function.iterate_zero_apply]

/-- One row of the kernel's columns: round by round, the stable order of the row's distances. -/
theorem cand_apply (r : Fin 2048) (j : Fin 8)
    (hf : ∀ k, rowOf (k0_pay2 xt xh cb b2) r k ≠ ⊤) :
    cand xt xh cb b2 (ix2 r j)
      = BitVec.ofNat 32 (order (rowOf (k0_pay2 xt xh cb b2) r) ⟨j.val, by omega⟩).val := by
  rw [cand_eq]
  refine (concatenate_ofFn_unit_apply (1 : Fin S2048x8.rank) (fun j : Fin 8 => idxWords (k0_pay2 xt xh cb b2) j.val)
    _ rfl rfl (ix2 r j) j rfl (ix2 r 0) (fun b hb => ?_)).trans ?_
  · match b with
    | ⟨0, _⟩ => rfl
    | ⟨1, _⟩ => exact absurd rfl hb
  · change FloatOps.fptosi (F := Ideal) (φ := .f32) 32 (idxCol (maskStep^[j.val] (k0_pay2 xt xh cb b2)) (ix2 r 0)) = _
    rw [idxCol_apply, rowOf_maskStep_iterate,
      first_iterate posOf_strictMono posOf_lt_cap _ hf ⟨j.val, by omega⟩, fptosi_pos]

/-- The scalar the kernel adds to the loss at a grid point: the sum of the rows' least distances. -/
theorem pay7_eq : k0_pay7 xt xh cb b2 = ∑ r : Fin 2048, least (rowOf (k0_pay2 xt xh cb b2) r) := by
  have h : ∀ r, k0_pay4 xt xh cb b2 (ix2 r 0) = least (rowOf (k0_pay2 xt xh cb b2) r) :=
    fun r => minCol_apply (k0_pay2 xt xh cb b2) r
  unfold k0_pay7
  pointwise
  simp only [h]
  exact Finset.sum_congr rfl fun r _ => Fin.sum_univ_one _

end

end Cert.KernelIdeal.Block

end
-- ==== Proof.TopK.lean ====
/- Sorting the rows of an array of negated entries from the greatest down puts, at each place, the position that the
   stable ascending sort of the entries themselves puts there: what `top_k` of the negated distances returns as its
   positions, at any extents. -/
module

public import proofs.«01_k».proof.Proof.Rounds
public import Idealize.ShloMosaic.Lib.Pipeline.Value
public import Idealize.ShloMosaic.Lib.Pointwise.IndexBridge
public import Idealize.ShloMosaic.PureOps.Ideal.Laws

@[expose] public section

noncomputable section

namespace Cert.Rows

open Idealize.ShloMosaic

/-- Moving an index of a two-axis array along its second axis. -/
theorem along_ix2 {N M : ℕ} (i : Fin N) (j k : Fin M) :
    Shape.Idx.along (s := ⟨2, ![N, M]⟩) (ix2 i j) (1 : Fin 2) k = ix2 i k := by
  funext a
  match a with
  | ⟨0, _⟩ => rfl
  | ⟨1, _⟩ => rfl

/-- The comparison of two negated entries is the comparison of the entries turned round. -/
theorem gt_neg (a b : EReal) :
    (FloatOps.cmpfTotal (F := Ideal) (φ := .f32) .gt (-a) (-b) == 1#1) = decide (a < b) := by
  show (BitVec.ofBool (decide (-b < -a)) == 1#1) = decide (a < b)
  by_cases h : a < b
  · rw [decide_eq_true h, decide_eq_true (EReal.neg_lt_neg_iff.mpr h)]; rfl
  · rw [decide_eq_false h, decide_eq_false (fun h' => h (EReal.neg_lt_neg_iff.mp h'))]; rfl

/-- The second operand of a sort of two along the second axis, read at an index: the operand at the position the row's
    sort puts there. -/
theorem sort2_snd {N M : ℕ} {α β : Type} (cmp : α × β → α × β → BitVec 1) (x : (⟨2, ![N, M]⟩ : Shape).Idx → α)
    (y : (⟨2, ![N, M]⟩ : Shape).Idx → β) (i : Fin N) (j : Fin M) :
    (Host.sort2 ⟨2, ![N, M]⟩ 1 cmp x y).2 (ix2 i j)
      = y (ix2 i (sortedFrom (fun k k' => cmp (x (ix2 i k), y (ix2 i k)) (x (ix2 i k'), y (ix2 i k')) == 1#1) j)) := by
  have e : ∀ g : Fin M → (⟨2, ![N, M]⟩ : Shape).Idx, g = ix2 i →
      y (g (sortedFrom (fun k k' => cmp (x (g k), y (g k)) (x (g k'), y (g k')) == 1#1) j))
        = y (ix2 i (sortedFrom (fun k k' => cmp (x (ix2 i k), y (ix2 i k)) (x (ix2 i k'), y (ix2 i k')) == 1#1) j)) := by
    rintro _ rfl
    rfl
  exact e (fun k => Shape.Idx.along (s := ⟨2, ![N, M]⟩) (ix2 i j) (1 : Fin 2) k) (funext fun k => along_ix2 i j k)

/-- The position words of `top_k` along the second axis of an array whose row `i` holds the negated entries of `f i`. -/
theorem topK_order {N M K : ℕ} (x : (⟨2, ![N, M]⟩ : Shape).Idx → EReal) (f : Fin N → Fin M → EReal)
    (hx : ∀ i k, x (ix2 i k) = -(f i k)) (h : (⟨2, ![N, M]⟩ : Shape).Slices (fun _ => 0) ⟨2, ![N, K]⟩)
    (i : Fin N) (q : Fin K) (hq : q.val < M) :
    (Host.topK ⟨2, ![N, K]⟩ 1 (FloatOps.cmpfTotal (F := Ideal) (φ := .f32) .gt) x h).2 (ix2 i q)
      = BitVec.ofNat 32 (order (f i) ⟨q.val, hq⟩).val := by
  unfold Host.topK
  dsimp only
  refine (extractStridedSlice_apply _ _ h (ix2 i q) (ix2 i ⟨q.val, hq⟩) (fun a => ?_)).trans ?_
  · match a with
    | ⟨0, _⟩ => exact (Nat.zero_add _).symm
    | ⟨1, _⟩ => exact (Nat.zero_add _).symm
  · rw [sort2_snd]
    refine congrArg (fun b => BitVec.ofNat 32 (sortedFrom b ⟨q.val, hq⟩).val) (funext fun k => funext fun k' => ?_)
    show (FloatOps.cmpfTotal (F := Ideal) (φ := .f32) .gt (x (ix2 i k)) (x (ix2 i k')) == 1#1) = before (f i) k k'
    rw [hx, hx, gt_neg]
    rfl

end Cert.Rows

end
-- ==== Proof.RefRead.lean ====
/- What the reference computes, read at an index: the distances, the positions of the eight smallest in every row, the
   codeword each row takes, and the mean of the squared differences. -/
module

public import proofs.«01_k».proof.Proof.Gen.ReferenceIdeal.Read
public import proofs.«01_k».proof.Proof.Block
public import proofs.«01_k».proof.Proof.TopK
public import Idealize.ShloMosaic.Lib.ReduceAll
public import Idealize.ShloMosaic.Lib.Routing.Ops

@[expose] public section

set_option maxRecDepth 16384

noncomputable section

namespace Cert.ReferenceIdeal.Reading

open Idealize.ShloMosaic Cert.ReferenceIdeal Cert.ReferenceIdeal.Gen Cert.ReferenceIdeal.Read Cert.Rows
open Cert.KernelIdeal.Block (dist)

variable (xh xt : S16384x256.Idx → EReal) (cb : S1024x256.Idx → EReal)

/-- The distance of row `i` to code `k`. -/
def refD (i : Fin 16384) (k : Fin 1024) : EReal :=
  dist (fun e => xt (ix2 i e)) (fun e => xh (ix2 i e)) (fun e => cb (ix2 k e)) (∑ e : Fin 256, cb (ix2 k e) * cb (ix2 k e))

theorem rows_apply (i : Fin 16384) (k : Fin 1024) :
    val_main_v7 (F := Ideal) xh xt (ix2 i k) = ∑ e : Fin 256, (xt (ix2 i e) - xh (ix2 i e)) * (xt (ix2 i e) - xh (ix2 i e)) := by
  rw [val_main_v7_apply, val_main_v3_apply, val_main_v2_apply, val_main_cst_apply]
  refine (congrArg (· + _) Ideal.ofBits_zero_f32).trans ((zero_add _).trans (Finset.sum_congr rfl fun e _ => ?_))
  have h : idx_main_v2 (idx_main_v3 (idx_main_v7 (ix2 i k))) e = ix2 i e := by
    funext a
    match a with
    | ⟨0, _⟩ => rfl
    | ⟨1, _⟩ => rfl
  rw [h]
  rfl

theorem codes_apply (i : Fin 16384) (k : Fin 1024) :
    val_main_v8 (F := Ideal) cb (ix2 i k) = ∑ e : Fin 256, cb (ix2 k e) * cb (ix2 k e) := by
  rw [val_main_v8_apply, val_main_v6_apply, val_main_v5_apply, val_main_cst_0_apply]
  refine (congrArg (· + _) Ideal.ofBits_zero_f32).trans ((zero_add _).trans (Finset.sum_congr rfl fun e _ => ?_))
  have h : idx_main_v5 (idx_main_v6 (idx_main_v8 (ix2 i k))) e = ix2 k e := by
    funext a
    match a with
    | ⟨0, _⟩ => rfl
    | ⟨1, _⟩ => rfl
  rw [h]
  rfl

theorem dots_apply (i : Fin 16384) (k : Fin 1024) :
    val_main_v11 (F := Ideal) xh xt cb (ix2 i k) = ∑ e : Fin 256, (xt (ix2 i e) - xh (ix2 i e)) * cb (ix2 k e) := by
  rw [val_main_v11_apply]
  refine Finset.sum_congr rfl fun e _ => ?_
  have hl : lidx_main_v11 (ix2 i k) e = ix2 i e := by
    funext a
    match a with
    | ⟨0, _⟩ => rfl
    | ⟨1, _⟩ => rfl
  have hr : idx_main_v10 (ridx_main_v11 (ix2 i k) e) = ix2 k e := by
    funext a
    match a with
    | ⟨0, _⟩ => rfl
    | ⟨1, _⟩ => rfl
  rw [val_main_v10_apply, hl, hr]
  rfl

/-- The reference's array of distances. -/
theorem dists_apply (i : Fin 16384) (k : Fin 1024) : val_main_v14 (F := Ideal) xh xt cb (ix2 i k) = refD xh xt cb i k := by
  rw [val_main_v14_apply, val_main_v9_apply, val_main_v13_apply, rows_apply, codes_apply, dots_apply, val_main_v12_apply,
    val_main_cst_1_apply]
  unfold refD Cert.KernelIdeal.Block.dist
  rw [← word_two]
  rfl

/-- The reference's positions: in every row those of the stable ascending sort of the distances. -/
theorem indices_apply (i : Fin 16384) (q : Fin 8) : val_main_indices (F := Ideal) xh xt cb (ix2 i q)
    = BitVec.ofNat 32 (order (refD xh xt cb i) ⟨q.val, by omega⟩).val := by
  refine topK_order _ (refD xh xt cb) (fun i k => ?_) sliceFits_S16384x1024_S16384x8 i q _
  rw [val_main_v15_apply, dists_apply]
  rfl

/-- The code row `i` takes: the least distance's first position. -/
def code (i : Fin 16384) : Fin 1024 := order (refD xh xt cb i) 0

theorem code_word (i : Fin 16384) (j : S16384.Idx) (hj : (j 0).val = i.val) :
    val_main_v17 (F := Ideal) xh xt cb j = BitVec.ofNat 32 (code xh xt cb i).val := by
  rw [val_main_v17_apply, val_main_v16_apply]
  have h : idx_main_v16 (idx_main_v17 j) = ix2 i (0 : Fin 8) := by
    funext a
    match a with
    | ⟨0, _⟩ => exact Fin.ext ((Nat.div_one _).trans hj)
    | ⟨1, _⟩ => rfl
  rw [h, indices_apply]
  rfl

/-! ## The lookup of the codes -/

/-- A word below 1024 is not negative, lies in the table's range, and wrapping leaves it alone. -/
theorem wrap_word (p : ℕ) (hp : p < 1024) :
    IntOp.cmpi .slt (BitVec.ofNat 32 p) 0#32 = 0#1 ∧ IntOp.cmpi .sge (BitVec.ofNat 32 p) 0#32 = 1#1
      ∧ IntOp.cmpi .sle (BitVec.ofNat 32 p) 1023#32 = 1#1 := by
  have h : (BitVec.ofNat 32 p).toInt = p := StableHlo.Predicate.toInt_ofNat_small _ (by omega)
  have h1 : (1023#32 : BitVec 32).toInt = 1023 := by decide
  have h0 : (0#32 : BitVec 32).toInt = 0 := by decide
  refine ⟨?_, ?_, ?_⟩
  · show BitVec.ofBool (BitVec.slt _ _) = 0#1
    rw [BitVec.slt, h, h0, decide_eq_false (by omega)]; rfl
  · show BitVec.ofBool (BitVec.sle _ _) = 1#1
    rw [BitVec.sle, h, h0, decide_eq_true (by omega)]; rfl
  · show BitVec.ofBool (BitVec.sle _ _) = 1#1
    rw [BitVec.sle, h, h1, decide_eq_true (by omega)]; rfl

/-- The column of row numbers the lookup reads at. -/
theorem column_apply (i : Fin 16384) (j : S16384x1.Idx) (hj : (j 0).val = i.val) :
    val_main_call0_v5 (F := Ideal) xh xt cb j = BitVec.ofNat 32 (code xh xt cb i).val := by
  have w := wrap_word (code xh xt cb i).val (code xh xt cb i).isLt
  rw [val_main_call0_v5_apply, val_main_call0_v4_apply, val_main_call0_v1_apply, val_main_call0_v0_apply, val_main_call0_c_apply,
    code_word xh xt cb i _ hj, w.1]
  rfl

theorem inRange (j : S16384x1.Idx) : val_main_call0_v11 (F := Ideal) xh xt cb j = 1#1 := by
  have hj := column_apply xh xt cb ⟨(j 0).val, (j 0).isLt⟩ j rfl
  have w := wrap_word (code xh xt cb ⟨(j 0).val, (j 0).isLt⟩).val (code xh xt cb ⟨(j 0).val, (j 0).isLt⟩).isLt
  rw [val_main_call0_v11_apply, val_main_call0_v7_apply, val_main_call0_v10_apply, hj, val_main_call0_v6_apply,
    val_main_call0_c_2_apply, val_main_call0_v9_apply, val_main_call0_v8_apply, val_main_call0_c_1_apply, w.2.1, w.2.2]
  rfl

theorem gathered_apply (i : Fin 16384) (e : Fin 256) :
    val_main_call0_v13 (F := Ideal) xh xt cb (ix2 i e) = cb (ix2 (code xh xt cb i) e) := by
  unfold val_main_call0_v13
  rw [ix2_eq_valueIdx, ix2_eq_valueIdx]
  exact Routing.gather_row _ rfl rfl rfl rfl rfl cb _ i e (code xh xt cb i) (column_apply xh xt cb i _ rfl) (by norm_num)

/-- The codeword every row takes. -/
theorem taken_apply (i : Fin 16384) (e : Fin 256) :
    val_main_v18 (F := Ideal) xh xt cb (ix2 i e) = cb (ix2 (code xh xt cb i) e) := by
  have h : val_main_call0_v12 (F := Ideal) xh xt cb (idx_main_call0_v14 (ix2 i e)) = 1#1 := by
    unfold val_main_call0_v12
    exact Host.reduce_andi_one _ _ _ _ _ rfl (inRange xh xt cb)
  rw [val_main_v18_apply, val_main_call0_v14_apply, h, gathered_apply]
  rfl

/-- The sum of the squared differences of row `i`. -/
def rowError (i : Fin 16384) : EReal :=
  ∑ e : Fin 256, (xh (ix2 i e) + cb (ix2 (code xh xt cb i) e) - xt (ix2 i e)) * (xh (ix2 i e) + cb (ix2 (code xh xt cb i) e) - xt (ix2 i e))

/-- The reference's loss. -/
theorem loss_apply (j : S_.Idx) : val_main_v23 (F := Ideal) xh xt cb j
    = Ideal.div (∑ i : Fin 16384, rowError xh xt cb i) (Ideal.ofBits .f32 0x4A800000#32) := by
  rw [val_main_v23_apply, val_main_v22_apply, val_main_cst_2_apply, val_main_cst_3_apply]
  refine congrArg (fun s => Ideal.div s (Ideal.ofBits .f32 0x4A800000#32)) ?_
  refine (congrArg (· + _) Ideal.ofBits_zero_f32).trans ((zero_add _).trans ((sum_idx2 _).trans ?_))
  refine Finset.sum_congr rfl fun i _ => Finset.sum_congr rfl fun e _ => ?_
  rw [val_main_v21_apply, val_main_v20_apply, val_main_v19_apply, taken_apply]
  rfl

end Cert.ReferenceIdeal.Reading

end
-- ==== Proof.Points.lean ====
/- What the kernel's body leaves in its two output blocks at a grid point: the eight columns of positions, and the
   running sum of the rows' least distances. -/
module

public import proofs.«01_k».proof.Proof.Gen.KernelIdeal.Frame
public import proofs.«01_k».proof.Proof.Block
public import Idealize.ShloMosaic.Lib.Pipeline.Value

@[expose] public section

set_option maxRecDepth 16384

noncomputable section

namespace Cert.KernelIdeal.Points

open Idealize.ShloMosaic Idealize.ShloMosaic.TcCoe Idealize.ShloMosaic.Tactic Cert.KernelIdeal Cert.KernelIdeal.Gen Cert.KernelIdeal.Block

variable (m : (ℓ : Loc nD τ sig) → Buf (Elt Ideal) ℓ)

theorem zeros : (![0, 0] : Fin 2 → ℕ) = fun _ => 0 := by
  funext a; fin_cases a <;> rfl

section
variable (c : Dev nD) (t : Fin cfg0.N) (x0 x1 : Vec Ideal S2048x256 .f32) (x2 : Vec Ideal S1024x256 .f32)
  (x3 : Vec Ideal S1x1024 .f32) (x5 : Vec Ideal S1x1 .f32)

/-- At the first point the position block is the eight columns, -/
theorem out_A_4 (h : cond0_0 (grid0.coords t)) :
    out0_A_4 c (grid0.coords t) (ms0_0 t) (hs0_0 t) (ms0_1 t) (hs0_1 t) (ms0_2 t) (hs0_2 t) (ms0_3 t) (hs0_3 t) (ms0_4 t)
      (hs0_4 t) (ms0_5 t) (hs0_5 t) h x0 x1 x2 x3 = cand x1 x0 x2 x3 := by
  unfold out0_A_4
  rw [View.read_writes_eq_canon _ _ _ (cover0_A_4 c _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    View.ld_unit_zero (S := S2048x256) zeros, View.ld_unit_zero (S := S1024x256) zeros,
    View.ld_unit_zero (S := S1x1024) zeros]
  exact View.canon_unit_zero (S := S2048x8) zeros _ _

/-- and the loss block is zero plus the point's sum. -/
theorem out_A_5 (h : cond0_0 (grid0.coords t)) :
    out0_A_5 c (grid0.coords t) (ms0_0 t) (hs0_0 t) (ms0_1 t) (hs0_1 t) (ms0_2 t) (hs0_2 t) (ms0_3 t) (hs0_3 t) (ms0_4 t)
      (hs0_4 t) (ms0_5 t) (hs0_5 t) h x0 x1 x2 x3 = k0_pay1 (k0_pay7 x1 x0 x2 x3) (k0_pay23 (F := Ideal)) := by
  unfold out0_A_5
  rw [View.read_writes_eq_canon _ _ _ (cover0_A_5 c _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    View.ld_unit_zero (S := S2048x256) zeros, View.ld_unit_zero (S := S1024x256) zeros,
    View.ld_unit_zero (S := S1x1024) zeros]
  rw [View.canon_cons_unit_zero (S := S1x1) zeros, View.readCov_unit_zero (S := S1x1) _ zeros]

/-- At a later point the position block is the eight columns again, -/
theorem out_B_4 (h : ¬cond0_0 (grid0.coords t)) :
    out0_B_4 c (grid0.coords t) (ms0_0 t) (hs0_0 t) (ms0_1 t) (hs0_1 t) (ms0_2 t) (hs0_2 t) (ms0_3 t) (hs0_3 t) (ms0_4 t)
      (hs0_4 t) (ms0_5 t) (hs0_5 t) h x0 x1 x2 x3 x5 = cand x1 x0 x2 x3 := by
  unfold out0_B_4
  rw [View.read_writes_eq_canon _ _ _ (cover0_B_4 c _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread,
    View.ld_unit_zero (S := S2048x256) zeros, View.ld_unit_zero (S := S1024x256) zeros,
    View.ld_unit_zero (S := S1x1024) zeros]
  exact View.canon_unit_zero (S := S2048x8) zeros _ _

/-- and the loss block is what the point before left plus the point's sum. -/
theorem out_B_5 (h : ¬cond0_0 (grid0.coords t)) :
    out0_B_5 c (grid0.coords t) (ms0_0 t) (hs0_0 t) (ms0_1 t) (hs0_1 t) (ms0_2 t) (hs0_2 t) (ms0_3 t) (hs0_3 t) (ms0_4 t)
      (hs0_4 t) (ms0_5 t) (hs0_5 t) h x0 x1 x2 x3 x5 = k0_pay1 (k0_pay7 x1 x0 x2 x3) x5 := by
  unfold out0_B_5
  rw [View.read_writes_eq_canon _ _ _ (cover0_B_5 c _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread,
    (hs0_5 t).read_unread, View.ld_unit_zero (S := S1x1) zeros, View.ld_unit_zero (S := S2048x256) zeros, View.ld_unit_zero (S := S1024x256) zeros,
    View.ld_unit_zero (S := S1x1024) zeros]
  exact View.canon_unit_zero (S := S1x1) zeros _ _

end

/-- Adding a point's sum to the loss block. -/
theorem pay1_apply (s : EReal) (v : Vec Ideal S1x1 .f32) : k0_pay1 (F := Ideal) s v (ix2 0 0) = v (ix2 0 0) + s := by
  unfold k0_pay1
  pointwise

theorem pay23_apply : k0_pay23 (F := Ideal) (ix2 0 0) = 0 := by
  unfold k0_pay23
  pointwise

/-- The four blocks a point reads. -/
def xhB (c : Dev nD) (t : Fin cfg0.N) : Vec Ideal S2048x256 .f32 := iblk m c 0 t

def xtB (c : Dev nD) (t : Fin cfg0.N) : Vec Ideal S2048x256 .f32 := iblk m c 1 t

def cbB (c : Dev nD) (t : Fin cfg0.N) : Vec Ideal S1024x256 .f32 := iblk m c 2 t

def b2B (c : Dev nD) (t : Fin cfg0.N) : Vec Ideal S1x1024 .f32 := iblk m c 3 t

/-- A point's sum of least distances. -/
def stepLoss (c : Dev nD) (t : Fin cfg0.N) : EReal :=
  k0_pay7 (F := Ideal) (xtB m c t) (xhB m c t) (cbB m c t) (b2B m c t)

/-- The position block after the body at any point. -/
theorem outs_cand (c : Dev nD) (t : Fin cfg0.N) :
    (outsAt0 m c t.val t.isLt).1 = cand (xtB m c t) (xhB m c t) (cbB m c t) (b2B m c t) := by
  by_cases h : t.val % 8 = 0
  · rw [outsAt0_A m c t h]
    dsimp only
    exact out_A_4 c t (iblk m c 0 t) (iblk m c 1 t) (iblk m c 2 t) (iblk m c 3 t) ((hcond0_0 t).mpr h)
  · rw [outsAt0_B m c t h]
    dsimp only
    exact out_B_4 c t (iblk m c 0 t) (iblk m c 1 t) (iblk m c 2 t) (iblk m c 3 t) _ (fun hc => h ((hcond0_0 t).mp hc))

/-- The loss block after the body at the first point, -/
theorem outs_first (c : Dev nD) (t : Fin cfg0.N) (h : t.val % 8 = 0) :
    (outsAt0 m c t.val t.isLt).2 = k0_pay1 (F := Ideal) (stepLoss m c t) (k0_pay23 (F := Ideal)) := by
  rw [outsAt0_A m c t h]
  dsimp only
  exact out_A_5 c t (iblk m c 0 t) (iblk m c 1 t) (iblk m c 2 t) (iblk m c 3 t) ((hcond0_0 t).mpr h)

/-- and after the body at a later one. -/
theorem outs_next (c : Dev nD) (n : ℕ) (hn : n + 1 < cfg0.N) :
    (outsAt0 m c (n + 1) hn).2 = k0_pay1 (F := Ideal) (stepLoss m c ⟨n + 1, hn⟩) (outsAt0 m c n (Nat.lt_of_succ_lt hn)).2 := by
  have hN : cfg0.N = 8 := N_0
  have h : ¬(⟨n + 1, hn⟩ : Fin cfg0.N).val % 8 = 0 := by dsimp only; omega
  rw [outsAt0_B m c ⟨n + 1, hn⟩ h]
  dsimp only
  exact out_B_5 c ⟨n + 1, hn⟩ (iblk m c 0 _) (iblk m c 1 _) (iblk m c 2 _) (iblk m c 3 _) _ (fun hc => h ((hcond0_0 _).mp hc))

/-- What starts at the first addend and takes one more at each step is the sum of the addends so far. -/
theorem run_sum {N : ℕ} (g : (n : ℕ) → n < N → EReal) (f : Fin N → EReal) (h0 : ∀ h, g 0 h = f ⟨0, h⟩)
    (hs : ∀ n h, g (n + 1) h = g n (Nat.lt_of_succ_lt h) + f ⟨n + 1, h⟩) (n : ℕ) (hn : n < N) :
    g n hn = ∑ s : Fin (n + 1), f ⟨s.val, by have := s.isLt; omega⟩ := by
  induction n with
  | zero => rw [h0]; exact (Fin.sum_univ_one (fun s : Fin (0 + 1) => f ⟨s.val, by have := s.isLt; omega⟩)).symm
  | succ n ih =>
    rw [hs, ih]
    exact (Fin.sum_univ_castSucc (n := n + 1) (fun s => f ⟨s.val, by have := s.isLt; omega⟩)).symm

/-- The loss block after the body at position `n`: the sums of the points so far. -/
theorem outs_loss (c : Dev nD) (n : ℕ) (hn : n < cfg0.N) :
    (outsAt0 m c n hn).2 (ix2 0 0) = ∑ s : Fin (n + 1), stepLoss m c ⟨s.val, by have := s.isLt; omega⟩ := by
  refine run_sum (fun n hn => (outsAt0 m c n hn).2 (ix2 0 0)) (stepLoss m c) (fun h => ?_) (fun n h => ?_) n hn
  · refine (congrFun (outs_first m c ⟨0, h⟩ rfl) _).trans ?_
    rw [pay1_apply, pay23_apply, zero_add]
  · refine (congrFun (outs_next m c n h) _).trans ?_
    rw [pay1_apply]

end Cert.KernelIdeal.Points

end
-- ==== Proof.Arrays.lean ====
/- What the kernel's two result arrays hold: the position array, block by block the rows' eight least positions, and the
   one-element loss array, the sum over every row of its least distance. -/
module

public import proofs.«01_k».proof.Proof.Points

@[expose] public section

set_option maxRecDepth 16384

noncomputable section

namespace Cert.KernelIdeal.Arrays

open Idealize.ShloMosaic Idealize.ShloMosaic.TcCoe Idealize.ShloMosaic.Tactic Cert.KernelIdeal Cert.KernelIdeal.Gen Cert.KernelIdeal.Block
open Cert.KernelIdeal.Points Cert.Rows

variable (m : (ℓ : Loc nD τ sig) → Buf (Elt Ideal) ℓ)

/-- The three arguments. -/
def XH (c : Dev nD) : S16384x256.Idx → EReal := m ((c : Thread nD τ).loc main_arg0)

def XT (c : Dev nD) : S16384x256.Idx → EReal := m ((c : Thread nD τ).loc main_arg1)

def CB (c : Dev nD) : S1024x256.Idx → EReal := m ((c : Thread nD τ).loc main_arg2)

/-- The row of the arrays that row `r` of point `t`'s blocks is. -/
def rowAt (t : Fin cfg0.N) (r : Fin 2048) : Fin 16384 :=
  ⟨2048 * t.val + r.val, by have hN : cfg0.N = 8 := N_0; have := t.isLt; have := r.isLt; omega⟩

/-- The squared norm of code `k`, as the host lines before the region sum it. -/
def norm2 (c : Dev nD) (k : Fin 1024) : EReal := ∑ e : Fin 256, CB m c (ix2 k e) * CB m c (ix2 k e)

/-- The distance the kernel computes from row `i` to code `k`. -/
def D (c : Dev nD) (i : Fin 16384) (k : Fin 1024) : EReal :=
  dist (fun e => XT m c (ix2 i e)) (fun e => XH m c (ix2 i e)) (fun e => CB m c (ix2 k e)) (norm2 m c k)

/-! ## The blocks read -/

theorem index_0 (t : Fin cfg0.N) : win0_0.index t 0 = t.val ∧ win0_0.index t 1 = 0 := by
  rcases fin_N0 t with rfl | rfl | rfl | rfl | rfl | rfl | rfl | rfl <;> decide +kernel

theorem index_1 (t : Fin cfg0.N) : win0_1.index t 0 = t.val ∧ win0_1.index t 1 = 0 := by
  rcases fin_N0 t with rfl | rfl | rfl | rfl | rfl | rfl | rfl | rfl <;> decide +kernel

theorem index_2 (t : Fin cfg0.N) : win0_2.index t 0 = 0 ∧ win0_2.index t 1 = 0 := by
  rcases fin_N0 t with rfl | rfl | rfl | rfl | rfl | rfl | rfl | rfl <;> decide +kernel

theorem index_3 (t : Fin cfg0.N) : win0_3.index t 0 = 0 ∧ win0_3.index t 1 = 0 := by
  rcases fin_N0 t with rfl | rfl | rfl | rfl | rfl | rfl | rfl | rfl <;> decide +kernel

theorem index_4 (t : Fin cfg0.N) : win0_4.index t 0 = t.val ∧ win0_4.index t 1 = 0 := by
  rcases fin_N0 t with rfl | rfl | rfl | rfl | rfl | rfl | rfl | rfl <;> decide +kernel

theorem index_5 (t : Fin cfg0.N) : win0_5.index t 0 = 0 ∧ win0_5.index t 1 = 0 := by
  rcases fin_N0 t with rfl | rfl | rfl | rfl | rfl | rfl | rfl | rfl <;> decide +kernel

theorem xhB_apply (c : Dev nD) (t : Fin cfg0.N) (r : Fin 2048) (e : Fin 256) :
    xhB m c t (ix2 r e) = XH m c (ix2 (rowAt t r) e) := by
  have hi := index_0 t
  unfold xhB iblk
  rw [View.read_apply]
  refine (congrFun (V_main_arg0 m c) _).trans ?_
  unfold XH
  congr 1
  funext a
  apply Fin.ext
  match a with
  | ⟨0, _⟩ => show win0_0.index t 0 * 2048 + 1 * r.val = 2048 * t.val + r.val; rw [hi.1]; omega
  | ⟨1, _⟩ => show win0_0.index t 1 * 256 + 1 * e.val = e.val; rw [hi.2]; omega

theorem xtB_apply (c : Dev nD) (t : Fin cfg0.N) (r : Fin 2048) (e : Fin 256) :
    xtB m c t (ix2 r e) = XT m c (ix2 (rowAt t r) e) := by
  have hi := index_1 t
  unfold xtB iblk
  rw [View.read_apply]
  refine (congrFun (V_main_arg1 m c) _).trans ?_
  unfold XT
  congr 1
  funext a
  apply Fin.ext
  match a with
  | ⟨0, _⟩ => show win0_1.index t 0 * 2048 + 1 * r.val = 2048 * t.val + r.val; rw [hi.1]; omega
  | ⟨1, _⟩ => show win0_1.index t 1 * 256 + 1 * e.val = e.val; rw [hi.2]; omega

theorem cbB_apply (c : Dev nD) (t : Fin cfg0.N) (k : Fin 1024) (e : Fin 256) :
    cbB m c t (ix2 k e) = CB m c (ix2 k e) := by
  have hi := index_2 t
  unfold cbB iblk
  rw [View.read_apply]
  refine (congrFun (V_main_arg2 m c) _).trans ?_
  unfold CB
  congr 1
  funext a
  apply Fin.ext
  match a with
  | ⟨0, _⟩ => show win0_2.index t 0 * 1024 + 1 * k.val = k.val; rw [hi.1]; omega
  | ⟨1, _⟩ => show win0_2.index t 1 * 256 + 1 * e.val = e.val; rw [hi.2]; omega

/-- The host lines before the region leave the codes' squared norms in the row the fourth window reads. -/
theorem V_main_v2 (c : Dev nD) : V m c main_v2 = broadcastInDim S1x1024 ![1] bcast_S1024_S1x1024_1
    (Host.reduceAdd (mulf (F := Ideal) (CB m c) (CB m c)) (constant (F := Ideal) S_ .f32 0x00000000#32)
      reducesTo_S1024x256_S1024_d1 h_S_) := by
  unfold_abbrev_sides
  after_results
  rfl

theorem V_norm2 (c : Dev nD) (k : Fin 1024) : V m c main_v2 (ix2 0 k) = norm2 m c k := by
  refine (congrFun (V_main_v2 m c) (ix2 0 k)).trans ?_
  unfold norm2
  pointwise

theorem b2B_apply (c : Dev nD) (t : Fin cfg0.N) (k : Fin 1024) : b2B m c t (ix2 0 k) = norm2 m c k := by
  have hi := index_3 t
  unfold b2B iblk
  rw [View.read_apply]
  refine Eq.trans ?_ (V_norm2 m c k)
  show V m c main_v2 _ = V m c main_v2 _
  congr 1
  funext a
  apply Fin.ext
  match a with
  | ⟨0, _⟩ => show win0_3.index t 0 * 1 + 1 * 0 = 0; rw [hi.1]
  | ⟨1, _⟩ => show win0_3.index t 1 * 1024 + 1 * k.val = k.val; rw [hi.2]; omega

/-- A block's row of distances is the arrays' row. -/
theorem rowOf_eq (c : Dev nD) (t : Fin cfg0.N) (r : Fin 2048) :
    rowOf (k0_pay2 (F := Ideal) (xtB m c t) (xhB m c t) (cbB m c t) (b2B m c t)) r = D m c (rowAt t r) := by
  funext k
  show k0_pay2 (F := Ideal) (xtB m c t) (xhB m c t) (cbB m c t) (b2B m c t) (ix2 r k) = _
  rw [dists_apply, b2B_apply]
  simp only [xtB_apply, xhB_apply, cbB_apply]
  rfl

/-! ## The position array -/

/-- The positions: in row `i`, column `j`, the position of the `j`-th least distance. -/
def indices (c : Dev nD) : IVec S16384x8 32 :=
  fun i => BitVec.ofNat 32 (order (D m c (i 0)) ⟨(i 1).val, lt_trans (i 1).isLt (by decide)⟩).val

theorem indices_apply (c : Dev nD) (i : S16384x8.Idx) (k : Fin 16384) (q : Fin 8) (h0 : (i 0).val = k.val)
    (h1 : (i 1).val = q.val) :
    indices m c i = BitVec.ofNat 32 (order (D m c k) ⟨q.val, lt_trans q.isLt (by decide)⟩).val := by
  have e0 : (i 0 : Fin 16384) = k := Fin.ext h0
  have e1 : (i 1 : Fin 8) = q := Fin.ext h1
  unfold indices
  subst e0 e1
  rfl

theorem flushed_4 (c : Dev nD) (hD : ∀ i k, D m c i k ≠ ⊤) (t : Fin cfg0.N) :
    (dats m 0 c).flushed 4 t = ((cfg0.win 4).blk t).view.read (Elt Ideal) (indices m c) := by
  show (cfg0.win 4).cut (grid0.coords t) ((dats m 0 c).after 4 t) = _
  rw [after0_4, outs_cand]
  have hi := index_4 t
  funext j
  rw [View.read_apply]
  obtain ⟨r, q, rfl⟩ : ∃ (r : Fin 2048) (q : Fin 8), j = ix2 r q := ⟨j 0, j 1, eq_ix2 j⟩
  refine (cand_apply (xtB m c t) (xhB m c t) (cbB m c t) (b2B m c t) r q ?_).trans ?_
  · intro k
    rw [rowOf_eq]
    exact hD _ _
  · rw [rowOf_eq]
    refine (indices_apply m c _ (rowAt t r) q ?_ ?_).symm
    · show win0_4.index t 0 * 2048 + 1 * r.val = 2048 * t.val + r.val
      rw [hi.1]; omega
    · show win0_4.index t 1 * 8 + 1 * q.val = q.val
      rw [hi.2]; omega

/-- An index of the position array is in point `t`'s block when its row is. -/
theorem mem_blk_4 (t : Fin cfg0.N) (i : S16384x8.Idx) (h : 2048 * t.val ≤ (i 0).val ∧ (i 0).val < 2048 * t.val + 2048) :
    i ∈ ((cfg0.win 4).blk t).view.set := by
  have hi := index_4 t
  have h1 : (i 1 : ℕ) < 8 := (i 1).isLt
  show i ∈ ((View.whole main_v3_0).slice (win0_4.rect t)).set
  rw [View.set_slice_whole, Rect.mem_set_unit]
  intro a
  match a with
  | ⟨0, _⟩ => show win0_4.index t 0 * 2048 ≤ (i 0).val ∧ (i 0).val < win0_4.index t 0 * 2048 + 2048; rw [hi.1]; omega
  | ⟨1, _⟩ => show win0_4.index t 1 * 8 ≤ (i 1).val ∧ (i 1).val < win0_4.index t 1 * 8 + 8; rw [hi.2]; omega

/-- The position array after the run. -/
theorem final_4 (c : Dev nD) (hD : ∀ i k, D m c i k ≠ ⊤) : (dats m 0 c).arrAt 4 cfg0.N = indices m c :=
  (dats m 0 c).arrAt_eq_of_cover 4 (indices m c) (fun t _ => flushed_4 m c hD t) fun i => by
    have h0 : (i 0 : ℕ) < 16384 := (i 0).isLt
    have hN : cfg0.N = 8 := N_0
    refine ⟨⟨(i 0 : ℕ) / 2048, by omega⟩, flush0_4 _, mem_blk_4 _ i ?_⟩
    dsimp only
    omega

/-! ## The loss array -/

/-- The sum of every row's least distance, point by point. -/
def total (c : Dev nD) : EReal := ∑ t : Fin 8, ∑ r : Fin 2048, least (D m c ⟨2048 * t.val + r.val, by omega⟩)

theorem stepLoss_eq (c : Dev nD) (t : Fin cfg0.N) :
    stepLoss m c t = ∑ r : Fin 2048, least (D m c (rowAt t r)) := by
  unfold stepLoss
  rw [pay7_eq]
  simp only [rowOf_eq]

theorem outs_total (c : Dev nD) (h : 7 < cfg0.N) : (outsAt0 m c 7 h).2 (ix2 0 0) = total m c := by
  rw [outs_loss]
  refine Finset.sum_congr rfl fun t _ => ?_
  rw [stepLoss_eq]
  rfl

/-- The loss array after the run. -/
theorem final_5 (c : Dev nD) : (dats m 0 c).arrAt 5 cfg0.N = (fun _ => total m c : S1x1.Idx → EReal) :=
  (dats m 0 c).arrAt_eq_of_cover 5 (fun _ => total m c : S1x1.Idx → EReal) (fun t hf => by
    have h7 : t.val = 7 := by
      have := (flush0_5 t).mp hf; have := t.isLt; have hN : cfg0.N = 8 := N_0; omega
    obtain rfl : t = t0_7 := Fin.ext h7
    show (cfg0.win 5).cut (grid0.coords t0_7) ((dats m 0 c).after 5 t0_7) = _
    rw [after0_5]
    funext j
    rw [View.read_apply]
    have hj : j = ix2 (0 : Fin 1) (0 : Fin 1) := by
      funext a; apply Fin.ext
      match a with
      | ⟨0, _⟩ => exact Nat.lt_one_iff.mp (j 0).isLt
      | ⟨1, _⟩ => exact Nat.lt_one_iff.mp (j 1).isLt
    subst hj
    exact outs_total m c _) fun i => ⟨t0_7, (flush0_5 t0_7).mpr rfl, by
      have hi := index_5 t0_7
      have h0 : (i 0 : ℕ) < 1 := (i 0).isLt
      have h1 : (i 1 : ℕ) < 1 := (i 1).isLt
      show i ∈ ((View.whole main_v3_1).slice (win0_5.rect t0_7)).set
      rw [View.set_slice_whole, Rect.mem_set_unit]
      intro a
      match a with
      | ⟨0, _⟩ => show win0_5.index t0_7 0 * 1 ≤ (i 0).val ∧ (i 0).val < win0_5.index t0_7 0 * 1 + 1; rw [hi.1]; omega
      | ⟨1, _⟩ => show win0_5.index t0_7 1 * 1 ≤ (i 1).val ∧ (i 1).val < win0_5.index t0_7 1 * 1 + 1; rw [hi.2]; omega⟩

end Cert.KernelIdeal.Arrays

end
-- ==== Proof.KernelRun.lean ====
/- The run of the kernel's program: its two results and its unchanged arguments. -/
module

public import proofs.«01_k».proof.Proof.Arrays

@[expose] public section

set_option maxRecDepth 16384

noncomputable section

namespace Cert.KernelIdeal.Run

open Idealize Idealize.ShloMosaic Idealize.ShloMosaic.TcCoe Idealize.ShloMosaic.Tactic Cert.KernelIdeal Cert.KernelIdeal.Gen
open Cert.KernelIdeal.Arrays

variable (m : (ℓ : Loc nD τ sig) → Buf (Elt Ideal) ℓ) (ρ : Dev nD → PrngReg)

/-- The mean the host lines after the region take: the loss array's element over the number of elements. -/
def loss (c : Dev nD) : S_.Idx → EReal := fun _ => Ideal.div (total m c) ((4194304 : ℝ) : EReal)

/-- The word of the number of elements. -/
theorem word_count : Ideal.ofBits .f32 0x4A800000#32 = ((4194304 : ℝ) : EReal) := by
  simp [Ideal.ofBits, Ideal.ieee, -EReal.coe_mul]; norm_num

/-- What the host lines after the region leave in the second result, from any contents. -/
theorem after_mean (W : Valuation τ sig (Elt Ideal)) : StableHlo.after (List.flatten [hostOps1]) W (Proc.devRef .tc main_v5)
    = Host.divf (shapeCast S_ (W (Proc.devRef .tc main_v3_1) : Vec Ideal S1x1 .f32) shapeCasts_S1x1_S_)
        (constant (F := Ideal) S_ .f32 0x4A800000#32) := by
  simp only [hostOps1, List.flatten_cons, List.flatten_nil, List.append_nil]
  after_results
  rfl

theorem mean_eq (s : EReal) : Host.divf (F := Ideal) (shapeCast S_ (fun _ => s : Vec Ideal S1x1 .f32) shapeCasts_S1x1_S_)
    (constant (F := Ideal) S_ .f32 0x4A800000#32) = fun _ => Ideal.div s ((4194304 : ℝ) : EReal) := by
  rw [← word_count]
  rfl

theorem tail (c : Dev nD) : Pipeline.afterTail₀ cfgs (dats m) 0 (V0 m) [hostOps1] c main_v5 = loss m c := by
  have h5 : Pipeline.withArrays (cfgs 0).spec c (V0 m c) (fun w => (dats m 0 c).arrAt w (cfgs 0).N)
      (Proc.devRef .tc main_v3_1) = (fun _ => total m c : S1x1.Idx → EReal) :=
    (Pipeline.withArrays_arr spec0 (by decide) c (V0 m c) (fun w => (dats m 0 c).arrAt w (cfgs 0).N) 5).trans (final_5 m c)
  refine (after_mean _).trans ?_
  rw [h5]
  exact mean_eq _

/-- The run of the kernel's program. -/
theorem run (hD : ∀ c i k, D m c i k ≠ ⊤) :
    θ_run defs (onTc (τ := τ) (main (F := Ideal))) ⟨m, fun _ => 0, ρ⟩ fun r => ∀ c : Dev nD,
      r.2.mem ((c.tc : Thread nD τ).loc main_v3_0) = indices m c
      ∧ r.2.mem ((c.tc : Thread nD τ).loc main_v5) = loss m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 4).trans (final_4 m c (hD c)),
      ((h c).2 main_v5 (Pipeline.mem_restRefs_of main_v5 (by decide) (by decide))).trans (tail m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Run

end
-- ==== Proof.Equation.lean ====
/- Over finite arguments the distance of a row to a code, in its expanded form, is the sum of the squared differences
   between the row's target and its estimate moved by the code. So the distances are finite, the least of a row is the
   squared error of the code the row takes, and the two programs' results are equal. -/
module

public import proofs.«01_k».proof.Proof.RefRead
public import proofs.«01_k».proof.Proof.KernelRun

@[expose] public section

set_option maxRecDepth 16384

noncomputable section

namespace Cert.Equation

open Idealize.ShloMosaic Cert.Rows Cert.ReferenceIdeal.Reading

/-- A finite extended real. -/
def Finite (x : EReal) : Prop := x ≠ ⊤ ∧ x ≠ ⊥

/-- A sum of reals is the same taken among the extended reals. -/
theorem coe_sum {n : ℕ} (f : Fin n → ℝ) : ((∑ i, f i : ℝ) : EReal) = ∑ i, ((f i : ℝ) : EReal) := by
  classical
  have h : ∀ s : Finset (Fin n), ((∑ i ∈ s, f i : ℝ) : EReal) = ∑ i ∈ s, ((f i : ℝ) : EReal) := fun s => by
    induction s using Finset.induction_on with
    | empty => simp
    | insert a s ha ih => rw [Finset.sum_insert ha, Finset.sum_insert ha, EReal.coe_add, ih]
  exact h _

/-- A family of finite extended reals is a family of reals. -/
theorem exists_real {ι : Type} (x : ι → EReal) (h : ∀ i, Finite (x i)) : ∃ y : ι → ℝ, x = fun i => ((y i : ℝ) : EReal) :=
  ⟨fun i => (x i).toReal, funext fun i => (EReal.coe_toReal (h i).1 (h i).2).symm⟩

/-- The expanded distance of reals is the sum of squared differences. -/
theorem dist_real {d : ℕ} (t h c : Fin d → ℝ) :
    Cert.KernelIdeal.Block.dist (fun e => (t e : EReal)) (fun e => (h e : EReal)) (fun e => (c e : EReal)) (∑ e, (c e : EReal) * (c e : EReal))
      = ((∑ e, (h e + c e - t e) * (h e + c e - t e) : ℝ) : EReal) := by
  unfold Cert.KernelIdeal.Block.dist
  simp only [← EReal.coe_sub, ← EReal.coe_mul, ← coe_sum, ← EReal.coe_add]
  congr 1
  rw [Finset.mul_sum, ← Finset.sum_add_distrib, ← Finset.sum_sub_distrib]
  exact Finset.sum_congr rfl fun e _ => by ring

/-- The sum of squared differences of reals, taken among the extended reals. -/
theorem squares_real {d : ℕ} (t h c : Fin d → ℝ) :
    ∑ e, ((h e : EReal) + (c e : EReal) - (t e : EReal)) * ((h e : EReal) + (c e : EReal) - (t e : EReal))
      = ((∑ e, (h e + c e - t e) * (h e + c e - t e) : ℝ) : EReal) := by
  simp only [← EReal.coe_sub, ← EReal.coe_mul, ← coe_sum, ← EReal.coe_add]

section
variable (xh xt : Cert.ReferenceIdeal.S16384x256.Idx → EReal) (cb : Cert.ReferenceIdeal.S1024x256.Idx → EReal)
  (hh : ∀ i, Finite (xh i)) (ht : ∀ i, Finite (xt i)) (hc : ∀ i, Finite (cb i))
include hh ht hc

/-- The distances of finite arguments are not infinite. -/
theorem refD_ne_top (i : Fin 16384) (k : Fin 1024) : refD xh xt cb i k ≠ ⊤ := by
  obtain ⟨xh, rfl⟩ := exists_real xh hh
  obtain ⟨xt, rfl⟩ := exists_real xt ht
  obtain ⟨cb, rfl⟩ := exists_real cb hc
  unfold refD
  rw [dist_real]
  exact EReal.coe_ne_top _

/-- The squared error of the code a row takes is the row's least distance. -/
theorem rowError_eq_least (i : Fin 16384) : rowError xh xt cb i = least (refD xh xt cb i) := by
  rw [least_eq_order (refD xh xt cb i) 0 rfl]
  show rowError xh xt cb i = refD xh xt cb i (code xh xt cb i)
  unfold rowError
  generalize code xh xt cb i = k
  obtain ⟨xh, rfl⟩ := exists_real xh hh
  obtain ⟨xt, rfl⟩ := exists_real xt ht
  obtain ⟨cb, rfl⟩ := exists_real cb hc
  unfold refD
  rw [dist_real, squares_real]
end

/-- A sum over rows, taken block by block. -/
theorem sum_blocks {a b n : ℕ} (h : a * b = n) (f : Fin n → EReal)
    (hb : ∀ (t : Fin a) (r : Fin b), b * t.val + r.val < n) :
    ∑ i, f i = ∑ t : Fin a, ∑ r : Fin b, f ⟨b * t.val + r.val, hb t r⟩ := by
  subst h
  rw [← finProdFinEquiv.sum_comp, Fintype.sum_prod_type]
  exact Finset.sum_congr rfl fun t _ => Finset.sum_congr rfl fun r _ => congrArg f (Fin.ext (add_comm _ _))

section
open Cert.KernelIdeal Cert.KernelIdeal.Arrays

variable (m : (ℓ : Loc nD τ sig) → Buf (Elt Ideal) ℓ) (c : Dev nD)

/-- The kernel's distances are the reference's. -/
theorem D_eq : D m c = refD (XH m c) (XT m c) (CB m c) := rfl

/-- The positions agree. -/
theorem indices_eq : Cert.ReferenceIdeal.Read.val_main_indices (F := Ideal) (XH m c) (XT m c) (CB m c) = indices m c := by
  funext j
  have hj : j = ix2 (j 0) (j 1) := (ix2_eta j).symm
  rw [hj]
  exact (Cert.ReferenceIdeal.Reading.indices_apply (XH m c) (XT m c) (CB m c) (j 0) (j 1)).trans
    (Cert.KernelIdeal.Arrays.indices_apply m c (ix2 (j 0) (j 1)) (j 0) (j 1) rfl rfl).symm

/-- The sum of the rows' squared errors is the sum the kernel accumulates block by block. -/
theorem total_eq (hh : ∀ i, Finite (XH m c i)) (ht : ∀ i, Finite (XT m c i)) (hc : ∀ i, Finite (CB m c i)) :
    ∑ i : Fin 16384, rowError (XH m c) (XT m c) (CB m c) i = total m c :=
  (Finset.sum_congr rfl fun i _ => rowError_eq_least _ _ _ hh ht hc i).trans
    (sum_blocks (a := 8) (b := 2048) (n := 16384) (by norm_num) (fun i => least (refD (XH m c) (XT m c) (CB m c) i))
      fun t r => by omega)

/-- The losses agree. -/
theorem loss_eq (hh : ∀ i, Finite (XH m c i)) (ht : ∀ i, Finite (XT m c i)) (hc : ∀ i, Finite (CB m c i)) :
    Cert.ReferenceIdeal.Read.val_main_v23 (F := Ideal) (XH m c) (XT m c) (CB m c) = Run.loss m c := by
  funext j
  rw [loss_apply, total_eq m c hh ht hc, Run.word_count]
  rfl
end

end Cert.Equation

end
-- ==== Proof.Finite.lean ====
/- What the precondition says: no element of the three arguments is infinite. -/
module

public import proofs.«01_k».proof.Defs
public import proofs.«01_k».proof.Proof.Equation

@[expose] public section

set_option maxRecDepth 16384

noncomputable section

namespace Cert.Equation

open Idealize.ShloMosaic Cert.KernelIdeal Cert.KernelIdeal.Arrays

/-- The side conditions of the precondition's broadcasts. -/
theorem preFacts : Cert.Pre_finite_arguments.Facts where
  bcast_S_S16384x256 := by decide
  bcast_S_S1024x256 := by decide

/-- An extended real whose absolute value compares below the word of infinity is finite. -/
theorem finite_of_word (x : EReal) (h : Ideal.cmp .olt (max x (-x)) (Ideal.ofBits .f32 0x7F800000#32) = 1#1) : Finite x := by
  rw [Cert.Rows.word_inf] at h
  have h' : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  refine ⟨fun e => ?_, fun e => ?_⟩ <;> subst e <;> simp at h'

/-- The same of an array: every element is finite where the comparison of the whole array is all ones. -/
theorem finite_of_array {s : Shape} (x : FVec Ideal s .f32) (dims : Fin 0 → Fin s.rank) (hb : (⟨0, ![]⟩ : Shape).BroadcastsInDim s dims)
    (h : cmpf .olt (Host.absf x) (broadcastInDim s dims hb (constant (F := Ideal) ⟨0, ![]⟩ .f32 0x7F800000#32)) = fun _ => 1#1)
    (i : s.Idx) : Finite (x i) :=
  finite_of_word (x i) (congrFun h i)

variable (m : (ℓ : Loc nD τ sig) → Buf (Elt Ideal) ℓ)

/-- Under the precondition every element of every argument is finite. -/
theorem finite_arguments (h : Cert.Pre_KernelIdeal_finite_arguments (hPre_finite_arguments := preFacts) m) (c : Dev nD) :
    (∀ i, Finite (XH m c i)) ∧ (∀ i, Finite (XT m c i)) ∧ (∀ i, Finite (CB m c i)) :=
  ⟨finite_of_array _ _ _ (h c).1, finite_of_array _ _ _ (h c).2.1, finite_of_array _ _ _ (h c).2.2⟩

end Cert.Equation

end
-- ==== Proof.lean ====
/- The claims of this certificate, assembled. The kernel's run and the reference's run each end with the positions of
   the eight least distances of every row and the mean squared error, and both leave the arguments as they were. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Finite
public import Idealize.ShloMosaic.Adequacy
public import Idealize.ShloMosaic.Init

@[expose] public section

noncomputable section

namespace Cert.Proof

open Idealize.ShloMosaic Idealize.SL.Sem

/-- The kernel's program runs, leaves its arguments as they were and every semaphore at zero. -/
theorem frame_kernel : Cert.quiescent_Kernel := fun m g _ => Cert.Kernel.Gen.frame m g

/-- The same of its reading over the extended reals. -/
theorem frame_kernelIdeal : Cert.quiescent_KernelIdeal := fun m g _ => Cert.KernelIdeal.Gen.frame m g

theorem frame_kernelIdeal_pre : Cert.quiescent_KernelIdeal_pre_finite_arguments (hPre_finite_arguments := Cert.Equation.preFacts) :=
  fun m g _ => Cert.KernelIdeal.Gen.frame m g

/-- The reference runs and leaves its arguments as they were; it declares no semaphore. -/
theorem frame_referenceIdeal : Cert.quiescent_ReferenceIdeal := fun m g _ =>
  (θ_run Cert.ReferenceIdeal.defs _ _).mono
    (fun r h => ⟨fun c => (h c).2.2, sem_eq_zero_of_no_sems (by decide) r.2⟩) (Cert.ReferenceIdeal.Value.run m g)

theorem frame_referenceIdeal_pre : Cert.quiescent_ReferenceIdeal_pre_finite_arguments (hPre_finite_arguments := Cert.Equation.preFacts) :=
  fun m g _ => frame_referenceIdeal m g trivial

/-- The two programs' results are equal over finite arguments. -/
theorem algebraic : Cert.algebraic_KernelIdeal_ReferenceIdeal_pre_finite_arguments (hPre_finite_arguments := Cert.Equation.preFacts) := by
  intro m g m' g' hpre hm
  have hf := Cert.Equation.finite_arguments m hpre
  refine ⟨fun c => Cert.KernelIdeal.Arrays.indices m c, fun c => Cert.KernelIdeal.Run.loss m c,
    Cert.KernelIdeal.Run.run m g fun c => Cert.Equation.refD_ne_top _ _ _ (hf c).1 (hf c).2.1 (hf c).2.2, ?_⟩
  refine (θ_run Cert.ReferenceIdeal.defs _ _).mono (fun r h c => ?_) (Cert.ReferenceIdeal.Value.run m' g')
  have hv := h c
  rw [Cert.ReferenceIdeal.Read.val_main_indices_eq, Cert.ReferenceIdeal.Read.val_main_v23_eq, (hm c).1, (hm c).2.1, (hm c).2.2] at hv
  rw [(hm c).1, (hm c).2.1, (hm c).2.2]
  exact ⟨hv.1.trans (Cert.Equation.indices_eq m c),
    hv.2.1.trans (Cert.Equation.loss_eq m c (hf c).1 (hf c).2.1 (hf c).2.2), hv.2.2⟩

/-- Everything this certificate claims. -/
theorem claim : Cert.Claim :=
  ⟨Cert.Kernel.Gen.facts, Cert.KernelIdeal.Gen.facts, Cert.ReferenceIdeal.Gen.facts, Cert.Equation.preFacts,
    frame_kernel, frame_kernelIdeal, frame_kernelIdeal_pre, frame_referenceIdeal, frame_referenceIdeal_pre, trivial, algebraic⟩

end Cert.Proof

end
